-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_finite [hPre_queries_finite : Cert.Pre_queries_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_finite [hPre_queries_finite : Cert.Pre_queries_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_queries_finite [hKernelIdeal : Cert.KernelIdeal.Facts] [hPre_queries_finite : Cert.Pre_queries_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_queries_finite [hReferenceIdeal : Cert.ReferenceIdeal.Facts] [hPre_queries_finite : Cert.Pre_queries_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_queries_finite [hKernelIdeal : Cert.KernelIdeal.Facts] [hReferenceIdeal : Cert.ReferenceIdeal.Facts] [hPre_queries_finite : Cert.Pre_queries_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_queries_finite : Cert.Pre_queries_finite.Facts),
    quiescent_Kernel (hKernel := hKernel)
    ∧ quiescent_KernelIdeal (hKernelIdeal := hKernelIdeal)
    ∧ quiescent_KernelIdeal_pre_queries_finite (hKernelIdeal := hKernelIdeal) (hPre_queries_finite := hPre_queries_finite)
    ∧ quiescent_ReferenceIdeal (hReferenceIdeal := hReferenceIdeal)
    ∧ quiescent_ReferenceIdeal_pre_queries_finite (hReferenceIdeal := hReferenceIdeal) (hPre_queries_finite := hPre_queries_finite)
    ∧ preserves_Kernel_KernelIdeal
    ∧ algebraic_KernelIdeal_ReferenceIdeal_pre_queries_finite (hKernelIdeal := hKernelIdeal) (hReferenceIdeal := hReferenceIdeal) (hPre_queries_finite := hPre_queries_finite)
-- ==== Pre_queries_finite.lean ====
abbrev S4096x1536 : Shape := ⟨2, ![4096, 1536]⟩
abbrev S49152x48 : Shape := ⟨2, ![49152, 48]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)

variable [Facts]

def fn {F : FTy → Type} [FloatOps F] (main_arg0 : FVec F S4096x1536 .bf16) (main_arg1 : IVec S49152x48 32) : IVec S4096x1536 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  main_v3
-- ==== Kernel.lean ====
abbrev S4096x1536 : Shape := ⟨2, ![4096, 1536]⟩
abbrev S49152x48 : Shape := ⟨2, ![49152, 48]⟩
abbrev S48x49152 : Shape := ⟨2, ![48, 49152]⟩
abbrev S4096x49152 : Shape := ⟨2, ![4096, 49152]⟩
abbrev S48x512 : Shape := ⟨2, ![48, 512]⟩
abbrev S4096x512 : Shape := ⟨2, ![4096, 512]⟩
abbrev S1536x512 : Shape := ⟨2, ![1536, 512]⟩
abbrev S8x1 : Shape := ⟨2, ![8, 1]⟩
abbrev S1x512 : Shape := ⟨2, ![1, 512]⟩
abbrev S8x512 : Shape := ⟨2, ![8, 512]⟩
abbrev S768x512 : Shape := ⟨2, ![768, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S49152x48, .i32⟩
  | .hbm, ⟨2, _⟩ => ⟨S48x49152, .i32⟩
  | .hbm, ⟨3, _⟩ => ⟨S4096x49152, .bf16⟩
  | .local _ .vmem, ⟨0, _⟩ => ⟨S4096x1536, .bf16⟩
  | .local _ .vmem, ⟨1, _⟩ => ⟨S48x512, .i32⟩
  | .local _ .vmem, ⟨2, _⟩ => ⟨S48x512, .i32⟩
  | .local _ .vmem, ⟨3, _⟩ => ⟨S4096x512, .bf16⟩
  | .local _ .vmem, ⟨4, _⟩ => ⟨S4096x512, .bf16⟩
  | .local _ .vmem, ⟨5, _⟩ => ⟨S1536x512, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S48x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x1536 : Shape := ⟨2, ![4096, 1536]⟩
abbrev S49152x48 : Shape := ⟨2, ![49152, 48]⟩
abbrev S49152x48x1 : Shape := ⟨3, ![49152, 48, 1]⟩
abbrev S32 : Shape := ⟨1, ![32]⟩
abbrev S1x1x32 : Shape := ⟨3, ![1, 1, 32]⟩
abbrev S49152x48x32 : Shape := ⟨3, ![49152, 48, 32]⟩
abbrev S_ : Shape := ⟨0, ![]⟩
abbrev S4096x48x32 : Shape := ⟨3, ![4096, 48, 32]⟩
abbrev S4096x49152 : Shape := ⟨2, ![4096, 49152]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S49152x48, .i32⟩
  | .hbm, ⟨2, _⟩ => ⟨S49152x48x1, .i32⟩
  | .hbm, ⟨3, _⟩ => ⟨S32, .i32⟩
  | .hbm, ⟨4, _⟩ => ⟨S1x1x32, .i32⟩
  | .hbm, ⟨5, _⟩ => ⟨S49152x48x32, .i32⟩
  | .hbm, ⟨6, _⟩ => ⟨S49152x48x32, .i32⟩
  | .hbm, ⟨7, _⟩ => ⟨S49152x48x32, .i32⟩
  | .hbm, ⟨8, _⟩ => ⟨S_, .i32⟩
  | .hbm, ⟨9, _⟩ => ⟨S49152x48x32, .i32⟩
  | .hbm, ⟨10, _⟩ => ⟨S49152x48x32, .i32⟩
  | .hbm, ⟨11, _⟩ => ⟨S49152x48x32, .bf16⟩
  | .hbm, ⟨12, _⟩ => ⟨S4096x48x32, .bf16⟩
  | .hbm, ⟨13, _⟩ => ⟨S4096x49152, .f32⟩
  | .hbm, ⟨14, _⟩ => ⟨S4096x1536, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096x49152, .f32⟩
  | .hbm, ⟨19, _⟩ => ⟨S4096x49152, .f32⟩
  | .hbm, ⟨20, _⟩ => ⟨S4096x1, .f32⟩
  | .hbm, ⟨21, _⟩ => ⟨S4096x49152, .f32⟩
  | .hbm, ⟨22, _⟩ => ⟨S4096x49152, .f32⟩
  | .hbm, ⟨23, _⟩ => ⟨S4096x49152, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Proof.Unpack.lean ====
/- What one grid point of the kernel computes, as an array expression: the block of queries times the array of signs
   that the packed words hold. The body writes its 96 packed pieces out one after another; here they are one definition
   `piece words k`, `k < 96`, and the packed array is the concatenation of them all. Nothing here is about indices:
   `Signs` reads the packed array at an index. -/
module

public import proofs.«01_k».proof.Proof.Gen.KernelIdeal.Value
public import Idealize.ShloMosaic.Lib.Pipeline.ValueKit

@[expose] public section

set_option maxRecDepth 16384

noncomputable section

namespace Cert.KernelIdeal.Unpack

open Idealize.ShloMosaic Idealize.ShloMosaic.TcCoe Idealize.SL.Sem Cert.KernelIdeal Cert.KernelIdeal.Gen

/-- Row `w` of a block of words, repeated over eight rows. -/
def rowOf (words : IVec S48x512 32) (w : Nat) (h : S48x512.Slices ![w, 0] S1x512) : IVec S8x512 32 :=
  broadcastTo S8x512
    (shapeCast S1x512
      (extractStridedSlice S1x512 ![w, 0] (shapeCast S48x512 words shapeCasts_S48x512_S48x512) h)
      shapeCasts_S1x512_S1x512)
    broadcasts_S1x512_S8x512

/-- The bit position `2 s + b` on row `s` of eight. -/
def bitPos (b : BitVec 32) : IVec S8x1 32 :=
  addi (muli (broadcast S8x1 2#32) (iota .tc S8x1 32 [0] iota_S8x1_d0_w32)) (broadcast S8x1 b)

/-- Two sign bits packed in one word: on row `s`, bit `2 s + b` of `v` moved to place 15 and bit `2 s + b + 1` moved to
    place 31, all turned over the pattern `0xBF80BF80` (minus one twice). -/
def packWords (v : IVec S8x512 32) (b : BitVec 32) : IVec S8x512 32 :=
  xori
    (ori
      (shli (andi (shrui v (broadcastTo S8x512 (bitPos b) broadcasts_S8x1_S8x512)) (broadcast S8x512 1#32))
        (broadcast S8x512 15#32))
      (shli (shrui v (broadcastTo S8x512 (addi (bitPos b) (broadcast S8x1 1#32)) broadcasts_S8x1_S8x512))
        (broadcast S8x512 31#32)))
    (broadcast S8x512 3212885888#32)

/-- Row `k / 2` of the words is a row of them, for each of the 96 pieces. -/
theorem slices_row (k : Fin 96) : S48x512.Slices ![k.val / 2, 0] S1x512 := by
  revert k; decide

/-- Piece `k` of the packed array: the lower (`k` even) or the upper (`k` odd) sixteen bits of word row `k / 2`. -/
def piece (words : IVec S48x512 32) (k : Fin 96) : IVec S8x512 32 :=
  packWords (rowOf words (k.val / 2) (slices_row k)) (BitVec.ofNat 32 (16 * (k.val % 2)))

/-- 96 pieces of eight rows make 768 rows. -/
theorem pieces_concatenate (words : IVec S48x512 32) :
    Shape.Concatenates ((List.ofFn fun k : Fin 96 => (⟨S8x512, piece words k⟩ : (s : Shape) × (s.Idx → BitVec 32))).map (·.1))
      S768x512 0 := by
  rw [List.map_ofFn]
  show Shape.Concatenates (List.ofFn fun _ : Fin 96 => S8x512) S768x512 0
  decide +kernel

/-- The packed array: the 96 pieces one under another. -/
def packed (words : IVec S48x512 32) : IVec S768x512 32 :=
  concatenate S768x512 0 (List.ofFn fun k : Fin 96 => ⟨S8x512, piece words k⟩) (pieces_concatenate words)

/-- The array of signs: the packed words read as pairs of `bf16` rows. -/
def signs (words : IVec S48x512 32) : FVec Ideal S1536x512 .bf16 :=
  bitcastToFloat .bf16 (bitcast S1536x512 16 (packed words) bitcasts_S768x512_w32_S1536x512_w16)

variable (m : (ℓ : Loc nD τ sig) → Buf (Elt Ideal) ℓ)

/-- The block of the result that grid point `t` leaves is the matrix product of its queries with the signs of its
    words. -/
theorem out_eq (c : Dev nD) (t : Fin cfg0.N) : outsAt0 m c t = k0_pay1 (iblk m c 0 t) (signs (iblk m c 1 t)) := by
  unfold outsAt0
  frame_out
  generalize iblk m c 1 t = words
  generalize iblk m c 0 t = x
  -- the stored signs are recast to their own shape, which changes nothing
  have h236 : ∀ v, k0_pay236 (F := Ideal) v
      = bitcastToFloat .bf16 (bitcast S1536x512 16 v bitcasts_S768x512_w32_S1536x512_w16) := fun v => shapeCast_self _ _
  rw [h236]
  refine congrArg (fun r => k0_pay1 x
    (bitcastToFloat (F := Ideal) .bf16 (bitcast S1536x512 16 r bitcasts_S768x512_w32_S1536x512_w16))) ?_
  unfold packed k0_pay235
  refine StableHlo.concatenate_congr _ _ ?_ _ _
  rfl

end Cert.KernelIdeal.Unpack

end
-- ==== Proof.Signs.lean ====
/- The array of signs read at an index: row `k`, column `l` is one where bit `k % 32` of word row `k / 32`, column `l`, is
   set, and minus one where it is clear. The steps: the bits of one packed word (`extract_signs`, `extract_packWord`), one
   piece (`piece_apply`), the concatenation (`packed_apply`), the reading of words as pairs of rows (`bitcast_apply`). -/
module

public import proofs.«01_k».proof.Proof.Unpack
public import Idealize.ShloMosaic.Lib.Pointwise
public import Idealize.ShloMosaic.Lib.BitcastPair

@[expose] public section

set_option maxRecDepth 16384

noncomputable section

namespace Cert.KernelIdeal.Unpack

open Idealize.ShloMosaic Idealize.ShloMosaic.TcCoe Idealize.SL.Sem Cert.KernelIdeal Cert.KernelIdeal.Gen

/-- The two halves of a packed word: the lower half (`e = 0`) is the `bf16` pattern of one or of minus one as the lowest
    bit of `u` is set or clear, the upper half (`e = 1`) as the lowest bit of `v` is. -/
theorem extract_signs (u v : BitVec 32) (e : Nat) (he : e < 2) :
    ((((u &&& 1#32) <<< 15) ||| (v <<< 31)) ^^^ 3212885888#32).extractLsb' (16 * e) 16
      = if (if e = 0 then u else v).getLsbD 0 then 0x3F80#16 else 0xBF80#16 := by
  have hu : u &&& 1#32 = if u.getLsbD 0 then 1#32 else 0#32 := by
    apply BitVec.eq_of_getLsbD_eq
    intro i hi
    rw [BitVec.getLsbD_and, BitVec.getLsbD_one]
    rcases Nat.eq_zero_or_pos i with rfl | h0
    · cases u.getLsbD 0 <;> simp
    · cases u.getLsbD 0 <;> simp <;> omega
  have hv : v <<< 31 = if v.getLsbD 0 then 0x80000000#32 else 0#32 := by
    apply BitVec.eq_of_getLsbD_eq
    intro i hi
    rw [BitVec.getLsbD_shiftLeft]
    by_cases h31 : i = 31
    · subst h31; cases v.getLsbD 0 <;> simp
    · have : i < 31 := by omega
      cases v.getLsbD 0
      · simp [this]
      · simp only [this, decide_true, Bool.not_true, Bool.and_false, Bool.false_and, if_true]
        rw [show (0x80000000#32 : BitVec 32) = BitVec.twoPow 32 31 from rfl, BitVec.getLsbD_twoPow]
        simp; omega
  rw [hu, hv]
  have hr : (if e = 0 then u else v).getLsbD 0 = if e = 0 then u.getLsbD 0 else v.getLsbD 0 := by split <;> rfl
  rw [hr]
  generalize u.getLsbD 0 = a
  generalize v.getLsbD 0 = b
  rcases (by omega : e = 0 ∨ e = 1) with rfl | rfl <;> revert a b <;> decide

/-- The same for the word the kernel packs out of a word `w`: half `e` on row `s` of the piece for half `half` of `w`
    is the sign of bit `16 half + 2 s + e` of `w`. -/
theorem extract_packWord (w : BitVec 32) (s half e : Nat) (hs : s < 8) (hh : half < 2) (he : e < 2) :
    (IntOp.xori
      (IntOp.ori
        (IntOp.shli ArithUnit.vector
          (IntOp.andi
            (IntOp.shrui ArithUnit.vector w
              (IntOp.addi (IntOp.muli (2#32) (BitVec.ofNat 32 s)) (BitVec.ofNat 32 (16 * half))))
            1#32)
          15#32)
        (IntOp.shli ArithUnit.vector
          (IntOp.shrui ArithUnit.vector w
            (IntOp.addi (IntOp.addi (IntOp.muli (2#32) (BitVec.ofNat 32 s)) (BitVec.ofNat 32 (16 * half))) 1#32))
          31#32))
      3212885888#32).extractLsb' (16 * e) 16 = if w.getLsbD (16 * half + 2 * s + e) then 0x3F80#16 else 0xBF80#16 := by
  have hp : IntOp.addi (IntOp.muli (2#32) (BitVec.ofNat 32 s)) (BitVec.ofNat 32 (16 * half))
      = BitVec.ofNat 32 (16 * half + 2 * s) := by
    apply BitVec.eq_of_toNat_eq
    simp [IntOp.addi, IntOp.muli]
    omega
  have hq : IntOp.addi (BitVec.ofNat 32 (16 * half + 2 * s)) 1#32 = BitVec.ofNat 32 (16 * half + 2 * s + 1) := by
    apply BitVec.eq_of_toNat_eq
    simp [IntOp.addi]
  have hshr : ∀ n : Nat, n < 32 → IntOp.shrui .vector w (BitVec.ofNat 32 n) = w >>> n := by
    intro n hn
    unfold IntOp.shrui
    have : (BitVec.ofNat 32 n).toNat = n := by simp; omega
    rw [if_pos (by omega), BitVec.ushiftRight_eq', this]
  have hshl : ∀ (x : BitVec 32) (n : Nat), n < 32 → IntOp.shli .vector x (BitVec.ofNat 32 n) = x <<< n := by
    intro x n hn
    unfold IntOp.shli
    have : (BitVec.ofNat 32 n).toNat = n := by simp; omega
    rw [if_pos (by omega), BitVec.shiftLeft_eq', this]
  rw [hp, hq, hshr _ (by omega), hshr _ (by omega), hshl _ 15 (by omega), hshl _ 31 (by omega)]
  refine (extract_signs _ _ e he).trans ?_
  rcases (by omega : e = 0 ∨ e = 1) with rfl | rfl <;> simp

/-- Half `e` of row `s`, column `l` of piece `k` is the sign of bit `16 (k % 2) + 2 s + e` of word row `k / 2`. -/
theorem piece_apply (words : IVec S48x512 32) (k : Fin 96) (s : Fin 8) (l : Fin 512) (e : Nat) (he : e < 2) :
    (piece words k (ix2 s l)).extractLsb' (16 * e) 16
      = if (words (ix2 ⟨k.val / 2, by omega⟩ l)).getLsbD (16 * (k.val % 2) + 2 * s.val + e) then 0x3F80#16 else 0xBF80#16 := by
  pointwise [piece, packWords, rowOf, bitPos]
  exact extract_packWord _ s.val (k.val % 2) e s.isLt (by omega) he

/-- Row `r` of the packed array is row `r % 8` of piece `r / 8`. -/
theorem packed_apply (words : IVec S48x512 32) (r : Fin 768) (l : Fin 512) :
    packed words (ix2 r l) = piece words ⟨r.val / 8, by omega⟩ (ix2 ⟨r.val % 8, by omega⟩ l) := by
  unfold packed
  refine concatenate_ofFn_apply (t := S768x512) (s₁ := S8x512) 0 (fun k => piece words k) _ rfl 8 rfl (ix2 r l)
    ⟨r.val / 8, by omega⟩ rfl (ix2 ⟨r.val % 8, by omega⟩ l) rfl ?_
  intro b hb
  match b with
  | ⟨0, _⟩ => exact absurd rfl hb
  | ⟨1, _⟩ => rfl

/-- Row `k` of the packed words read at half the width is half `k % 2` of row `k / 2`. -/
theorem bitcast_apply (words : IVec S48x512 32) (k : Fin 1536) (l : Fin 512) :
    bitcast S1536x512 16 (packed words) bitcasts_S768x512_w32_S1536x512_w16 (ix2 k l)
      = (packed words (ix2 ⟨k.val / 2, by omega⟩ l)).extractLsb' (16 * (k.val % 2)) 16 := by
  rw [bitcast_32_16]
  refine congrArg (fun i => (packed words i).extractLsb' (16 * (k.val % 2)) 16) ?_
  funext a
  apply Fin.ext
  match a with
  | ⟨0, h⟩ => exact Shape.Bitcasts.srcIdx_row _ _ _ _ ⟨0, h⟩ rfl
  | ⟨1, h⟩ => exact Shape.Bitcasts.srcIdx_other _ _ _ _ ⟨1, h⟩ (show ¬ 1 + 2 = 2 by decide)

/-- The sign a bit stands for: one where it is set, minus one where it is clear. -/
def sign (b : Bool) : ℝ := if b then 1 else -1

/-- THE SIGNS: row `k`, column `l` is the sign of bit `k % 32` of word row `k / 32`, column `l`. -/
theorem signs_apply (words : IVec S48x512 32) (k : Fin 1536) (l : Fin 512) :
    signs words (ix2 k l) = (sign ((words (ix2 ⟨k.val / 32, by omega⟩ l)).getLsbD (k.val % 32)) : EReal) := by
  show FloatOps.ofBits .bf16 (bitcast S1536x512 16 (packed words) bitcasts_S768x512_w32_S1536x512_w16 (ix2 k l)) = _
  rw [bitcast_apply, packed_apply, piece_apply _ _ _ _ _ (by omega)]
  have e1 : k.val / 2 / 8 / 2 = k.val / 32 := by omega
  have e2 : 16 * (k.val / 2 / 8 % 2) + 2 * (k.val / 2 % 8) + k.val % 2 = k.val % 32 := by omega
  simp only [e1, e2]
  unfold sign
  split
  · exact Ideal.ofBits_one_bf16
  · exact Ideal.ofBits_neg_one_bf16

end Cert.KernelIdeal.Unpack

end
-- ==== Proof.KernelScores.lean ====
/- What the kernel's result array holds after the run: at query `b` and database row `n`, the sum over the 1536
   components of the query, each times the sign of its bit of the row. From one grid point's block (`Unpack`, `Signs`)
   to the array by the 96 column blocks, which cover it. -/
module

public import proofs.«01_k».proof.Proof.Signs
public import Idealize.ShloMosaic.Lib.Pointwise
public import Idealize.ShloMosaic.Lib.Claim

@[expose] public section

set_option maxRecDepth 16384

noncomputable section

namespace Cert.KernelIdeal.Scores

open Idealize.ShloMosaic Idealize.ShloMosaic.TcCoe Idealize.SL.Sem Cert.KernelIdeal Cert.KernelIdeal.Gen Cert.KernelIdeal.Unpack

/-- The matrix product of one block, at an index. -/
theorem product_apply (x : FVec Ideal S4096x1536 .bf16) (s : FVec Ideal S1536x512 .bf16) (b : Fin 4096) (l : Fin 512) :
    k0_pay1 x s (ix2 b l) = ∑ k : Fin 1536, x (ix2 b k) * s (ix2 k l) := by
  pointwise [k0_pay1]

/-- The scores: query `b` against database row `n`, the query's components summed with the signs of the row's bits. -/
def scores (x : FVec Ideal S4096x1536 .bf16) (db : IVec S49152x48 32) : FVec Ideal S4096x49152 .bf16 := fun j =>
  ∑ k : Fin 1536, x (ix2 (j 0) k) * (sign ((db (ix2 (j 1) ⟨k.val / 32, by omega⟩)).getLsbD (k.val % 32)) : EReal)

variable (m : (ℓ : Loc nD τ sig) → Buf (Elt Ideal) ℓ)

/-- Where each window stands at grid point `t`: all of the queries, column block `t` of the words and of the result. -/
theorem index_facts : ∀ t : Fin cfg0.N,
    win0_0.index t = ![0, 0] ∧ win0_1.index t = ![0, t.val] ∧ win0_2.index t = ![0, t.val] := by
  decide +kernel

/-- Every grid point reads the queries whole. -/
theorem queries_apply (c : Dev nD) (t : Fin cfg0.N) (b : Fin 4096) (k : Fin 1536) :
    iblk m c 0 t (ix2 b k) = m ((c.tc : Thread nD τ).loc main_arg0) (ix2 b k) := by
  blk_point [iblk, V, index_facts t]

/-- Grid point `t` reads the words of database rows `512 t` to `512 t + 511`, word `w` of a row in row `w` of the block. -/
theorem words_apply (c : Dev nD) (t : Fin cfg0.N) (w : Fin 48) (l : Fin 512) (n : Fin 49152)
    (hn : n.val = t.val * 512 + l.val) : iblk m c 1 t (ix2 w l) = m ((c.tc : Thread nD τ).loc main_arg1) (ix2 n w) := by
  blk_point [iblk, V, index_facts t]

/-- THE ARRAY: after the run the kernel's result is the scores of its two arguments. -/
theorem result_eq (c : Dev nD) : (dats m 0 c).arrAt 2 cfg0.N
    = scores (m ((c.tc : Thread nD τ).loc main_arg0)) (m ((c.tc : Thread nD τ).loc main_arg1)) := by
  refine (dats m 0 c).arrAt_eq_of_covers 2 _ (by decide +kernel) fun t hf y => ?_
  blk_simp
  rw [after0_2, out_eq]
  obtain ⟨b, l, rfl⟩ : ∃ (b : Fin 4096) (l : Fin 512), y = ix2 b l :=
    ⟨y 0, y 1, by funext a; match a with | ⟨0, _⟩ => rfl | ⟨1, _⟩ => rfl⟩
  have ht : t.val < 96 := t.isLt
  have e : (win0_2.blk t).view.emb (ix2 b l) = ix2 b (⟨t.val * 512 + l.val, by omega⟩ : Fin 49152) := by
    blk_ext [index_facts t]
  rw [e]
  refine (product_apply _ _ b l).trans (Finset.sum_congr rfl fun k _ => ?_)
  rw [signs_apply, queries_apply, words_apply m c t _ l ⟨t.val * 512 + l.val, by omega⟩ rfl]
  rfl

end Cert.KernelIdeal.Scores

end
-- ==== Proof.RefScores.lean ====
/- What the reference's result array holds at an index: twice the sum of the query's components whose bit is set, less
   the sum of all of them. -/
module

public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Scores

open Idealize.ShloMosaic Idealize.SL.Sem Cert.ReferenceIdeal Cert.ReferenceIdeal.Gen

/-- The bits of the database, as numbers: row `n`, word `w`, bit `j`. -/
def bits (db : IVec S49152x48 32) : FVec Ideal S49152x48x32 .bf16 :=
  uitofp .bf16 (andi
    (Host.shrui
      (broadcastInDim S49152x48x32 ![0, 1, 2] bcast_S49152x48x1_S49152x48x32_0_1_2
        (broadcastInDim S49152x48x1 ![0, 1] bcast_S49152x48_S49152x48x1_0_1 db))
      (broadcastInDim S49152x48x32 ![0, 1, 2] bcast_S1x1x32_S49152x48x32_0_1_2
        (broadcastInDim S1x1x32 ![2] bcast_S32_S1x1x32_2 (iotaInDim S32 32 0))))
    (broadcastInDim S49152x48x32 ![] bcast_S_S49152x48x32 (constantI S_ 32 1#32)))

/-- The sum of each query's components, repeated along the database rows. -/
def querySums (x : FVec Ideal S4096x1536 .bf16) : FVec Ideal S4096x49152 .f32 :=
  broadcastInDim S4096x49152 ![0, 1] bcast_S4096x1_S4096x49152_0_1
    (broadcastInDim S4096x1 ![0] bcast_S4096_S4096x1_0
      (Host.reduceAdd (extf .f32 x bitsLt_bf16_f32) (constant S_ .f32 0x00000000#32) reducesTo_S4096x1536_S4096_d1 h_S_))

/-- The reference's result, as the expression in its two arguments that its run leaves. -/
def result (x : FVec Ideal S4096x1536 .bf16) (db : IVec S49152x48 32) : FVec Ideal S4096x49152 .bf16 :=
  truncf .bf16
    (subf
      (mulf (broadcastInDim S4096x49152 ![] bcast_S_S4096x49152 (constant S_ .f32 0x40000000#32))
        (Host.dotGeneral dot_S4096x48x32_S49152x48x32_S4096x49152_21_21_0_0_n_n none
          (shapeCast _ x shapeCasts_S4096x1536_S4096x48x32) (bits db)))
      (querySums x))
    bitsLt_bf16_f32

/-- The `f32` pattern `0x40000000` is the number two. -/
theorem ofBits_two : Ideal.ofBits .f32 0x40000000#32 = ((2 : ℝ) : EReal) := by
  simp [Ideal.ofBits, Ideal.ieee, -EReal.coe_mul]; norm_num

/-- The number a bit stands for: one where it is set, zero where it is clear. -/
def bitVal (b : Bool) : ℝ := if b then 1 else 0

/-- A word moved down by `j` and masked to its lowest bit, read as a number, is the number of its bit `j`. -/
theorem bit_apply (w : BitVec 32) (j : Nat) (hj : j < 32) :
    (FloatOps.uitofp FTy.bf16 (IntOp.andi (IntOp.shrui ArithUnit.host w (BitVec.ofNat 32 j)) 1#32) : Ideal .bf16)
      = (bitVal (w.getLsbD j) : EReal) := by
  have hj' : (BitVec.ofNat 32 j).toNat = j := by simp; omega
  have hs : IntOp.shrui .host w (BitVec.ofNat 32 j) = w >>> j := by
    unfold IntOp.shrui
    rw [if_pos (by omega), BitVec.ushiftRight_eq', hj']
  have hu : IntOp.andi (w >>> j) 1#32 = if w.getLsbD j then 1#32 else 0#32 := by
    unfold IntOp.andi
    apply BitVec.eq_of_getLsbD_eq
    intro i hi
    rw [BitVec.getLsbD_and, BitVec.getLsbD_one, BitVec.getLsbD_ushiftRight]
    rcases Nat.eq_zero_or_pos i with rfl | h0
    · cases h : w.getLsbD j <;> simp [h]
    · cases w.getLsbD j <;> simp <;> omega
  rw [hs, hu]
  unfold bitVal
  show (((if w.getLsbD j then 1#32 else 0#32 : BitVec 32).toNat : ℝ) : EReal) = _
  cases w.getLsbD j <;> simp

/-- THE REFERENCE at query `b` and database row `n`: component `32 w + j` of the query goes with bit `j` of word `w`. -/
theorem result_apply (x : FVec Ideal S4096x1536 .bf16) (db : IVec S49152x48 32) (b : Fin 4096) (n : Fin 49152) :
    result x db (ix2 b n)
      = ((2 : ℝ) : EReal) * (∑ j : Fin 32, ∑ w : Fin 48,
            x (ix2 b ⟨w.val * 32 + j.val, by omega⟩) * (bitVal ((db (ix2 n w)).getLsbD j.val) : EReal))
          - ∑ k : Fin 1536, x (ix2 b k) := by
  rw [← ofBits_two]
  have hbit : ∀ (j : Fin 32) (w : Fin 48), (bitVal ((db (ix2 n w)).getLsbD j.val) : EReal) = _ :=
    fun j w => (bit_apply _ _ j.isLt).symm
  simp only [hbit]
  pointwise [result, bits, querySums]

end Cert.ReferenceIdeal.Scores

end
-- ==== Proof.Equation.lean ====
/- The equation between the two programs, about numbers alone: a sum of terms signed by bits is twice the sum of the terms
   whose bit is set, less the sum of all. Over the reals first, then over the extended reals where every term is a real
   number. -/
module

public import Idealize.ShloMosaic.PureOps.Ideal
public import Idealize.ShloMosaic.Lib.Pipeline.ValueKit

@[expose] public section

noncomputable section

namespace Cert.Equation

/-- A sum over word `w` and bit `j` is the sum over the component `32 w + j`. -/
theorem sum_words_bits (x : Fin 1536 → ℝ) (g : Fin 48 → Fin 32 → ℝ) :
    ∑ j : Fin 32, ∑ w : Fin 48, x ⟨w.val * 32 + j.val, by omega⟩ * g w j
      = ∑ k : Fin 1536, x k * g ⟨k.val / 32, by omega⟩ ⟨k.val % 32, by omega⟩ := by
  rw [Finset.sum_comm,
    ← Fintype.sum_prod_type' (f := fun (w : Fin 48) (j : Fin 32) => x ⟨w.val * 32 + j.val, by omega⟩ * g w j)]
  refine Fintype.sum_equiv (finProdFinEquiv (m := 48) (n := 32)) _ _ fun p => ?_
  obtain ⟨w, j⟩ := p
  have e1 : (j.val + 32 * w.val) / 32 = w.val := by omega
  have e2 : (j.val + 32 * w.val) % 32 = j.val := by omega
  have e3 : j.val + 32 * w.val = w.val * 32 + j.val := by omega
  simp only [finProdFinEquiv_apply_val, e1, e2]
  congr 2
  exact Fin.ext e3.symm

/-- Over the reals: the sum of the components signed by their bits is twice the sum of those whose bit is set, less the
    sum of all. -/
theorem signed_sum_real (x : Fin 1536 → ℝ) (β : Fin 48 → Fin 32 → Bool) :
    ∑ k : Fin 1536, x k * (if β ⟨k.val / 32, by omega⟩ ⟨k.val % 32, by omega⟩ then 1 else -1)
      = 2 * (∑ j : Fin 32, ∑ w : Fin 48, x ⟨w.val * 32 + j.val, by omega⟩ * (if β w j then 1 else 0))
        - ∑ k : Fin 1536, x k := by
  rw [sum_words_bits x fun w j => if β w j then 1 else 0, Finset.mul_sum, ← Finset.sum_sub_distrib]
  refine Finset.sum_congr rfl fun k _ => ?_
  split <;> ring

/-- A sum of reals read as an extended real is the sum of the terms so read. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- THE EQUATION over the extended reals, where every component is a real number. -/
theorem signed_sum (x : Fin 1536 → EReal) (hx : ∀ k, ∃ r : ℝ, x k = r) (β : Fin 48 → Fin 32 → Bool) :
    ∑ k : Fin 1536, x k * ((if β ⟨k.val / 32, by omega⟩ ⟨k.val % 32, by omega⟩ then 1 else -1 : ℝ) : EReal)
      = ((2 : ℝ) : EReal) * (∑ j : Fin 32, ∑ w : Fin 48,
            x ⟨w.val * 32 + j.val, by omega⟩ * ((if β w j then 1 else 0 : ℝ) : EReal))
        - ∑ k : Fin 1536, x k := by
  choose r hr using hx
  simp only [hr, ← EReal.coe_mul, ← coe_sum, ← EReal.coe_sub]
  exact congrArg Real.toEReal (signed_sum_real r β)

end Cert.Equation

end
-- ==== Proof.Finite.lean ====
/- What the precondition says: every query component is a real number, neither infinity. -/
module

public import proofs.«01_k».proof.Pre_queries_finite
public import Idealize.ShloMosaic.PureOps.Ideal
public import Idealize.ShloMosaic.Lib.IdealHost
public import Idealize.ShloMosaic.Lib.Pointwise

@[expose] public section

noncomputable section

namespace Cert.Finite

open Idealize.ShloMosaic

/-- The side conditions that the precondition's operations state. -/
theorem facts : Cert.Pre_queries_finite.Facts := ⟨by decide, by decide⟩

/-- The `f32` pattern `0x7F800000` is plus infinity. -/
theorem ofBits_inf : Ideal.ofBits .f32 0x7F800000#32 = ⊤ := by
  simp [Ideal.ofBits, Ideal.ieee]

/-- An extended real whose absolute value lies below plus infinity is a real number. -/
theorem real_of_abs_lt (v : EReal) (h : max v (-v) < ⊤) : ∃ r : ℝ, v = (r : EReal) := by
  induction v with
  | bot => simp at h
  | top => simp at h
  | coe r => exact ⟨r, rfl⟩

/-- Where the precondition holds, every component of the queries is a real number. -/
theorem real_of_pre [Cert.Pre_queries_finite.Facts] (x : FVec Ideal Cert.Pre_queries_finite.S4096x1536 .bf16)
    (db : IVec Cert.Pre_queries_finite.S49152x48 32) (h : Cert.Pre_queries_finite.fn (F := Ideal) x db = fun _ => 1#1)
    (i : Cert.Pre_queries_finite.S4096x1536.Idx) : ∃ r : ℝ, x i = (r : EReal) := by
  have hi : BitVec.ofBool (decide (max (x i : EReal) (-(x i)) < Ideal.ofBits .f32 0x7F800000#32)) = 1#1 := congrFun h i
  rw [ofBits_inf] at hi
  refine real_of_abs_lt _ ?_
  by_contra hn
  rw [decide_eq_false hn] at hi
  exact absurd hi (by decide)

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelScores
public import proofs.«01_k».proof.Proof.RefScores
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- Where the queries are finite, the kernel's scores are the reference's result, index by index. -/
theorem scores_eq_result [Cert.Pre_queries_finite.Facts] (x : FVec Ideal Cert.KernelIdeal.S4096x1536 .bf16)
    (db : IVec Cert.KernelIdeal.S49152x48 32) (h : Cert.Pre_queries_finite.fn (F := Ideal) x db = fun _ => 1#1) :
    Cert.KernelIdeal.Scores.scores x db = Cert.ReferenceIdeal.Scores.result x db := by
  funext j
  obtain ⟨b, n, rfl⟩ : ∃ (b : Fin 4096) (n : Fin 49152), j = ix2 b n :=
    ⟨j 0, j 1, by funext a; match a with | ⟨0, _⟩ => rfl | ⟨1, _⟩ => rfl⟩
  refine Eq.trans ?_ (Cert.ReferenceIdeal.Scores.result_apply x db b n).symm
  exact Cert.Equation.signed_sum (fun k => x (ix2 b k)) (fun k => Cert.Finite.real_of_pre x db h (ix2 b k))
    fun w j => (db (ix2 n w)).getLsbD j.val

/-- The reference runs to its end, its arguments unchanged and every semaphore at zero (it has none). -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  θ_run_mono (Cert.ReferenceIdeal.Value.run m g) fun r h => ⟨fun c => (h c).2, sem_eq_zero_of_no_sems rfl r.2⟩

/-- Every claim of the certificate. -/
theorem claim : Cert.Claim := ⟨Cert.Kernel.Gen.facts, Cert.KernelIdeal.Gen.facts, Cert.ReferenceIdeal.Gen.facts, Cert.Finite.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  by
    haveI := Cert.Finite.facts
    pair_intro
    · run_from Cert.KernelIdeal.Value.run_blocks m g
    · run_from Cert.ReferenceIdeal.Value.run m' g'
      exact ((Cert.KernelIdeal.Scores.result_eq m c).trans (scores_eq_result _ _ (hpre c))).symm⟩

end Cert.Proof

end
